-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1536 : Shape := ⟨3, ![4, 2048, 1536]⟩
abbrev S2432x1536 : Shape := ⟨2, ![2432, 1536]⟩
abbrev S2432 : Shape := ⟨1, ![2432]⟩
abbrev S1 : Shape := ⟨1, ![1]⟩
abbrev S1x1 : Shape := ⟨2, ![1, 1]⟩
abbrev S8192x1536 : Shape := ⟨2, ![8192, 1536]⟩
abbrev S8192x2432 : Shape := ⟨2, ![8192, 2432]⟩
abbrev S1024x1536 : Shape := ⟨2, ![1024, 1536]⟩
abbrev S1024x2432 : Shape := ⟨2, ![1024, 2432]⟩
abbrev S1x256 : Shape := ⟨2, ![1, 256]⟩
abbrev S1x2432 : Shape := ⟨2, ![1, 2432]⟩
abbrev S4x2048x2432 : Shape := ⟨3, ![4, 2048, 2432]⟩

abbrev nBuf : Space → Nat
  | .hbm => 10
  | .vmem => 9
  | .smem => 0
  | _ => 0

abbrev bufTy : (tb : Table) → Fin (tcTables nBuf tb) → BufTy
  | .hbm, ⟨0, _⟩ => ⟨S4x2048x1536, .bf16⟩
  | .hbm, ⟨1, _⟩ => ⟨S2432x1536, .fp8e4m3⟩
  | .hbm, ⟨2, _⟩ => ⟨S2432, .f32⟩
  | .hbm, ⟨3, _⟩ => ⟨S1, .f32⟩
  | .hbm, ⟨4, _⟩ => ⟨S1x1, .f32⟩
  | .hbm, ⟨5, _⟩ => ⟨S8192x1536, .bf16⟩
  | .hbm, ⟨6, _⟩ => ⟨S8192x2432, .bf16⟩
  | .hbm, ⟨7, _⟩ => ⟨S8192x1536, .fp8e4m3⟩
  | .hbm, ⟨8, _⟩ => ⟨S4x2048x2432, .bf16⟩
  | .hbm, ⟨9, _⟩ => ⟨S4x2048x1536, .fp8e4m3⟩
  | .local _ .vmem, ⟨0, _⟩ => ⟨S1x1, .f32⟩
  | .local _ .vmem, ⟨1, _⟩ => ⟨S1024x1536, .bf16⟩
  | .local _ .vmem, ⟨2, _⟩ => ⟨S1024x1536, .bf16⟩
  | .local _ .vmem, ⟨3, _⟩ => ⟨S2432x1536, .fp8e4m3⟩
  | .local _ .vmem, ⟨4, _⟩ => ⟨S2432, .f32⟩
  | .local _ .vmem, ⟨5, _⟩ => ⟨S1024x2432, .bf16⟩
  | .local _ .vmem, ⟨6, _⟩ => ⟨S1024x2432, .bf16⟩
  | .local _ .vmem, ⟨7, _⟩ => ⟨S1024x1536, .fp8e4m3⟩
  | .local _ .vmem, ⟨8, _⟩ => ⟨S1024x1536, .fp8e4m3⟩
  | _, _ => ⟨S4x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2432x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1536 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x2048x1536 : Shape := ⟨3, ![4, 2048, 1536]⟩
abbrev S2432x1536 : Shape := ⟨2, ![2432, 1536]⟩
abbrev S2432 : Shape := ⟨1, ![2432]⟩
abbrev S1 : Shape := ⟨1, ![1]⟩
abbrev S1x1 : Shape := ⟨2, ![1, 1]⟩
abbrev S4x2048x2432 : Shape := ⟨3, ![4, 2048, 2432]⟩
abbrev S1x254 : Shape := ⟨2, ![1, 254]⟩
abbrev S1x1x2432 : Shape := ⟨3, ![1, 1, 2432]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x1536, .bf16⟩
  | .hbm, ⟨1, _⟩ => ⟨S2432x1536, .fp8e4m3⟩
  | .hbm, ⟨2, _⟩ => ⟨S2432, .f32⟩
  | .hbm, ⟨3, _⟩ => ⟨S1, .f32⟩
  | .hbm, ⟨4, _⟩ => ⟨S1x1, .f32⟩
  | .hbm, ⟨5, _⟩ => ⟨S4x2048x2432, .bf16⟩
  | .hbm, ⟨6, _⟩ => ⟨S4x2048x1536, .fp8e4m3⟩
  | .local _ .vmem, ⟨0, _⟩ => ⟨S4x2048x1536, .bf16⟩
  | .local _ .vmem, ⟨1, _⟩ => ⟨S2432x1536, .fp8e4m3⟩
  | .local _ .vmem, ⟨2, _⟩ => ⟨S2432, .f32⟩
  | .local _ .vmem, ⟨3, _⟩ => ⟨S1x1, .f32⟩
  | .local _ .vmem, ⟨4, _⟩ => ⟨S4x2048x2432, .bf16⟩
  | .local _ .vmem, ⟨5, _⟩ => ⟨S4x2048x1536, .fp8e4m3⟩
  | _, _ => ⟨S4x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x2048x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2432x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2048x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2048x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Powers.lean ====
/- The extended reals that the words used by the two programs denote: the word `i <<< 23` is a power of two for `1 ≤ i ≤ 254`,
   zero at `i = 0` and infinity at `i = 255`; and, for a magnitude `a`, the number of those powers at or below `a`. -/
module

public import Idealize.ShloMosaic.PureOps.Ideal.Laws
public import Idealize.ShloMosaic.Lib.IdealHost

@[expose] public section

noncomputable section

namespace Cert.Proof

open Idealize.ShloMosaic

/-- The value of the word `i <<< 23` read as a float: exponent field `i`, fraction zero. -/
def thr (i : ℕ) : EReal := Ideal.ofBits .f32 (BitVec.ofNat 32 i <<< 23)

/-- The power of two `2 ^ k` as an extended real. -/
def pow2 (k : ℤ) : EReal := (((2 : ℝ) ^ k : ℝ) : EReal)

/-- The fields of the word `i <<< 23`: sign clear, exponent `i`, fraction zero. -/
theorem fields (i : Fin 256) :
    (BitVec.extractLsb' 31 1 (BitVec.ofNat 32 i.val <<< 23) == 1#1) = false
    ∧ (BitVec.extractLsb' 23 8 (BitVec.ofNat 32 i.val <<< 23)).toNat = i.val
    ∧ (BitVec.extractLsb' 0 23 (BitVec.ofNat 32 i.val <<< 23)).toNat = 0 := by
  revert i; decide +kernel

/-- For `1 ≤ i ≤ 254` the word denotes `2 ^ (i - 127)`. -/
theorem thr_normal {i : ℕ} (h1 : 1 ≤ i) (h2 : i ≤ 254) : thr i = pow2 ((i : ℤ) - 127) := by
  obtain ⟨hs, he, hf⟩ := fields ⟨i, by omega⟩
  simp only at hs he hf
  unfold thr Ideal.ofBits Ideal.ieee pow2
  simp only [hs, he, hf]
  rw [if_neg (by omega), if_neg (by omega)]
  simp only [Bool.false_eq_true, if_false, one_mul, Nat.add_zero, Nat.cast_pow, Nat.cast_ofNat]
  rw [← zpow_natCast (2 : ℝ) 23, ← zpow_add₀ (two_ne_zero)]
  rw [show ((23 : ℕ) : ℤ) + ((i : ℤ) - (2 ^ (8 - 1) - 1) - 23) = (i : ℤ) - 127 from by push_cast; omega]

/-- At `i = 0` the word denotes zero. -/
theorem thr_zero : thr 0 = 0 := by
  obtain ⟨hs, he, hf⟩ := fields 0
  simp only [Fin.val_zero] at hs he hf
  unfold thr Ideal.ofBits Ideal.ieee
  simp only [hs, he, hf]
  simp

/-- At `i = 255` the word denotes infinity. -/
theorem thr_top : thr 255 = ⊤ := by
  obtain ⟨hs, he, hf⟩ := fields 255
  simp only [show ((255 : Fin 256) : ℕ) = 255 from rfl] at hs he hf
  unfold thr Ideal.ofBits Ideal.ieee
  simp only [hs, he, hf]
  simp

/-- Powers of two increase with the exponent. -/
theorem pow2_le_pow2 {j k : ℤ} (h : j ≤ k) : pow2 j ≤ pow2 k :=
  EReal.coe_le_coe_iff.mpr (zpow_le_zpow_right₀ (by norm_num) h)

theorem pow2_lt_pow2 {j k : ℤ} (h : j < k) : pow2 j < pow2 k :=
  EReal.coe_lt_coe_iff.mpr (zpow_lt_zpow_right₀ (by norm_num) h)

theorem pow2_pos (k : ℤ) : 0 < pow2 k := by
  unfold pow2; exact_mod_cast zpow_pos (by norm_num : (0 : ℝ) < 2) k

theorem pow2_ne_top (k : ℤ) : pow2 k ≠ ⊤ := EReal.coe_ne_top _

/-- The values of the words `i <<< 23` increase with `i`. -/
theorem thr_mono {i j : ℕ} (hi : 1 ≤ i) (hij : i ≤ j) (hj : j ≤ 255) : thr i ≤ thr j := by
  rcases Nat.lt_or_ge j 255 with h | h
  · rw [thr_normal hi (by omega), thr_normal (by omega) (by omega)]
    exact pow2_le_pow2 (by omega)
  · obtain rfl : j = 255 := by omega
    rw [thr_top]; exact le_top

/-- `n` is the exponent field of the magnitude `a`: the words `1 <<< 23, …, n <<< 23` denote values at or below `a`, and no
    later one does. -/
structure IsField (a : EReal) (n : ℕ) : Prop where
  le : n ≤ 255
  iff : ∀ i, 1 ≤ i → i ≤ 255 → (thr i ≤ a ↔ i ≤ n)

/-- Every magnitude has an exponent field. -/
theorem exists_isField (a : EReal) : ∃ n, IsField a n := by
  classical
  refine ⟨Nat.findGreatest (fun i => 1 ≤ i ∧ thr i ≤ a) 255, Nat.findGreatest_le _, fun i h1 h2 => ⟨fun h => ?_, fun h => ?_⟩⟩
  · exact Nat.le_findGreatest h2 ⟨h1, h⟩
  · have hp := Nat.findGreatest_of_ne_zero (P := fun i => 1 ≤ i ∧ thr i ≤ a) (n := 255) rfl (by omega)
    exact (thr_mono h1 h (Nat.findGreatest_le _)).trans hp.2

/-- The multiplier that the quantiser uses at exponent field `n`: `2` at the fields of zero and of infinity, `0` where the
    reciprocal power is below the normal numbers, and else `2 ^ (127 - n)`. -/
def mult (n : ℕ) : EReal := if n = 0 ∨ n = 255 then pow2 1 else if n = 254 then 0 else pow2 (127 - (n : ℤ))

end Cert.Proof

end
-- ==== Proof.KernelInv.lean ====
/- The multiplier that the kernel computes from the scale, by words: it counts the powers of two at or below `|scale|`, makes a
   word of the count, and reads that word as a float. -/
module

public import proofs.«01_k».proof.Proof.Powers
public import Idealize.ShloMosaic.Lib.IndicatorCount
public import Idealize.ShloMosaic.Lib.Pointwise

@[expose] public section

noncomputable section

namespace Cert.Proof

open Idealize.ShloMosaic

/-- The kernel's count of the powers of two at or below `a`, as a 32-bit word. -/
def countWord (a : EReal) : BitVec 32 :=
  Finset.fold IntOp.addi (0#32) (fun x : Fin 256 => BitVec.setWidth 32
      (IntOp.andi (IntOp.cmpi CmpIPredicate.sgt (BitVec.ofNat 32 ↑x) 0#32)
        (BitVec.ofBool (decide (Ideal.ofBits FTy.f32 (IntOp.shli ArithUnit.vector (BitVec.ofNat 32 ↑x) 23#32) ≤ a)))))
    Finset.univ

/-- The word whose float the kernel multiplies by, from the word `c` of the count. -/
def multWord (c : BitVec 32) : BitVec 32 :=
  IntOp.shli ArithUnit.vector
    (IntOp.addi (IntOp.subi (1#32)
      (Scalar.select (IntOp.ori (IntOp.cmpi CmpIPredicate.eq c 0#32) (IntOp.cmpi CmpIPredicate.eq c 255#32)) (0#32)
        (IntOp.subi c 126#32))) 127#32) 23#32

/-- The word for the count `n`: exponent field 128, the word of `2`, at the counts 0 and 255, and field `254 - n` between. -/
theorem multWord_ofNat (n : Fin 256) :
    multWord (BitVec.ofNat 32 n.val) = BitVec.ofNat 32 (if n.val = 0 ∨ n.val = 255 then 128 else 254 - n.val) <<< 23 := by
  revert n; decide +kernel

/-- The shift by 23 in the kernel is the shift of words. -/
theorem shli_23 (x : BitVec 32) : IntOp.shli ArithUnit.vector x 23#32 = x <<< 23 := rfl

/-- A one-bit word `and` of a comparison with zero and a decision, as a proposition. -/
theorem bit_iff (i : Fin 256) (q : Prop) [Decidable q] :
    IntOp.andi (IntOp.cmpi CmpIPredicate.sgt (BitVec.ofNat 32 i.val) 0#32) (BitVec.ofBool (decide q)) = 1#1 ↔ 1 ≤ i.val ∧ q := by
  by_cases hq : q
  · simp only [hq, decide_true, and_true]; revert i; decide +kernel
  · simp only [hq, decide_false, and_false]; revert i; decide +kernel

/-- The kernel's count is the exponent field. -/
theorem countWord_eq {a : EReal} {n : ℕ} (h : IsField a n) : countWord a = BitVec.ofNat 32 n := by
  unfold countWord
  rw [IndicatorCount.fold_addi_setWidth_eq_card]
  congr 1
  rw [show (Finset.univ.filter fun x : Fin 256 =>
      IntOp.andi (IntOp.cmpi CmpIPredicate.sgt (BitVec.ofNat 32 ↑x) 0#32)
        (BitVec.ofBool (decide (Ideal.ofBits FTy.f32 (IntOp.shli ArithUnit.vector (BitVec.ofNat 32 ↑x) 23#32) ≤ a))) = 1#1)
      = (Finset.univ.filter fun x : Fin 256 => 1 ≤ x.val ∧ x.val ≤ n) from Finset.filter_congr fun x _ => by
    rw [bit_iff, shli_23]
    constructor
    · rintro ⟨h1, h2⟩; exact ⟨h1, (h.iff _ h1 (by omega)).mp h2⟩
    · rintro ⟨h1, h2⟩; exact ⟨h1, (h.iff _ h1 (by omega)).mpr h2⟩]
  have hn := h.le
  rw [← Finset.card_map Fin.valEmbedding]
  rw [show (Finset.univ.filter fun x : Fin 256 => 1 ≤ x.val ∧ x.val ≤ n).map Fin.valEmbedding = Finset.Icc 1 n from by
    ext k
    simp only [Finset.mem_map, Finset.mem_filter, Finset.mem_univ, true_and, Fin.valEmbedding_apply, Finset.mem_Icc]
    constructor
    · rintro ⟨x, hx, rfl⟩; exact hx
    · intro hk; exact ⟨⟨k, by omega⟩, hk, rfl⟩]
  simp

/-- The kernel's multiplier, at the magnitude `a`, is the multiplier of `a`'s exponent field. -/
theorem kernel_mult {a : EReal} {n : ℕ} (h : IsField a n) : Ideal.ofBits .f32 (multWord (countWord a)) = mult n := by
  have hn := h.le
  rw [countWord_eq h, multWord_ofNat ⟨n, by omega⟩]
  simp only
  unfold mult
  by_cases h0 : n = 0 ∨ n = 255
  · rw [if_pos h0, if_pos h0]
    exact (thr_normal (i := 128) (by omega) (by omega)).trans (by norm_num)
  · rw [if_neg h0, if_neg h0]
    by_cases h1 : n = 254
    · rw [if_pos h1, h1]; exact thr_zero
    · rw [if_neg h1]
      refine (thr_normal (i := 254 - n) (by omega) (by omega)).trans ?_
      congr 1
      omega

end Cert.Proof

end
-- ==== Proof.KernelBlock.lean ====
/- What the kernel's body computes from one block of rows: the codes of the block, and the block of the product. -/
module

public import proofs.«01_k».proof.Proof.KernelInv
public import proofs.«01_k».proof.Proof.Gen.KernelIdeal.Frame
public import Idealize.ShloMosaic.Lib.Pointwise

@[expose] public section

set_option maxRecDepth 16384

noncomputable section

namespace Cert.Proof

open Idealize.ShloMosaic

/-- The quantiser on one number: multiply by `μ` and clip to the largest finite code, `448`, and its negative. -/
def clip (μ v : EReal) : EReal :=
  min (Ideal.ofBits .f32 0x43E00000#32) (max (Ideal.ofBits .f32 0xC3E00000#32) (v * μ))

/-- The kernel's multiplier from its scale. -/
def kMult (s : Ideal .f32) : EReal := Ideal.ofBits .f32 (multWord (countWord (FloatOps.absf s)))

/-- The block of codes, at row `a` and column `b`. -/
theorem k_codes_at (s : Vec Ideal Cert.KernelIdeal.S1x1 .f32) (x : Vec Ideal Cert.KernelIdeal.S1024x1536 .bf16)
    (i : Cert.KernelIdeal.S1024x1536.Idx) :
    Cert.KernelIdeal.Gen.k0_pay3 (F := Ideal) s x i = clip (kMult (s (ix2 0 0))) (x i) := by
  idx_vars i
  pointwise [Cert.KernelIdeal.Gen.k0_pay3, Cert.KernelIdeal.Gen.k0_pay2]
  rfl

/-- The block of the product, at row `a` and column `b`: the dot product of a row of codes and a row of the weight, times the
    scale of the activations and the scale of the weight's row. -/
theorem k_prod_at (s : Vec Ideal Cert.KernelIdeal.S1x1 .f32) (q : Vec Ideal Cert.KernelIdeal.S1024x1536 .fp8e4m3)
    (w : Vec Ideal Cert.KernelIdeal.S2432x1536 .fp8e4m3) (ws : Vec Ideal Cert.KernelIdeal.S2432 .f32)
    (a : Fin 1024) (b : Fin 2432) :
    Cert.KernelIdeal.Gen.k0_pay1 (F := Ideal) (Cert.KernelIdeal.Gen.k0_pay2 s) q w ws (ix2 a b)
      = ((∑ k : Fin 1536, q (ix2 a k) * w (ix2 b k) : EReal) * s (ix2 0 0) * ws (ix1 b) : EReal) := by
  pointwise [Cert.KernelIdeal.Gen.k0_pay1, Cert.KernelIdeal.Gen.k0_pay2]

end Cert.Proof

end
-- ==== Proof.KernelArray.lean ====
/- What the kernel's two output arrays hold after its run, as functions of the arrays its region reads. -/
module

public import proofs.«01_k».proof.Proof.KernelBlock
public import Idealize.ShloMosaic.Lib.Pipeline.ValueKit

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ)

/-- The codes of all rows, from the scale and the rows. -/
def kCodes (s : S1x1.Idx → EReal) (x : S8192x1536.Idx → EReal) : S8192x1536.Idx → EReal :=
  fun i => clip (kMult (s (ix2 0 0))) (x i)

/-- The product of all rows of codes with the weight, scaled. -/
def kProd (s : S1x1.Idx → EReal) (x : S8192x1536.Idx → EReal) (w : S2432x1536.Idx → EReal) (ws : S2432.Idx → EReal) :
    S8192x2432.Idx → EReal :=
  fun i => (∑ k : Fin 1536, kCodes s x (ix2 (i 0) k) * w (ix2 (i 1) k)) * s (ix2 0 0) * ws (ix1 (i 1))

/-- Where the blocks sit at grid point `t`: the rows' block and both output blocks at row-block `t`; the scale, the weight and
    its scales whole. -/
theorem points : ∀ t : Fin cfg0.N,
    (cfg0.win 0).index t = ![0, 0] ∧ (cfg0.win 1).index t = ![(t.val : ℕ), 0] ∧ (cfg0.win 2).index t = ![0, 0]
    ∧ (cfg0.win 3).index t = ![0] ∧ (cfg0.win 4).index t = ![(t.val : ℕ), 0] ∧ (cfg0.win 5).index t = ![(t.val : ℕ), 0] :=
  (by decide +kernel : ∀ t : Fin grid0.N,
    win0_0.index t = ![0, 0] ∧ win0_1.index t = ![(t.val : ℕ), 0] ∧ win0_2.index t = ![0, 0]
    ∧ win0_3.index t = ![0] ∧ win0_4.index t = ![(t.val : ℕ), 0] ∧ win0_5.index t = ![(t.val : ℕ), 0])

/-- The body's codes are computed from the scale and the block of rows. -/
theorem pay4_eq (s : Vec Ideal S1x1 .f32) (x : Vec Ideal S1024x1536 .bf16) (w : Vec Ideal S2432x1536 .fp8e4m3)
    (ws : Vec Ideal S2432 .f32) : k0_pay4 s x w ws = k0_pay3 s x := by
  unfold k0_pay4
  rw [View.ld_unit_lit, View.ld_unit_lit] <;> decide

/-- The scale's block is the scale. -/
theorem blk0 (c : Dev nD) (t : Fin cfg0.N) : (show S1x1.Idx → EReal from iblk m c 0 t) = V m c main_v0 := by
  blk_ext! [iblk, points t]

/-- The rows' block at point `t` is the rows from `1024 t` on. -/
theorem blk1 (c : Dev nD) (t : Fin cfg0.N) (y : S1024x1536.Idx) (i : S8192x1536.Idx) (h0 : (i 0 : ℕ) = t.val * 1024 + y 0)
    (h1 : (i 1 : ℕ) = y 1) : (show S1024x1536.Idx → EReal from iblk m c 1 t) y = V m c main_v1 i := by
  blk_ext! [iblk, points t]

/-- The weight's block is the weight. -/
theorem blk2 (c : Dev nD) (t : Fin cfg0.N) : (show S2432x1536.Idx → EReal from iblk m c 2 t) = V m c main_arg1 := by
  blk_ext! [iblk, points t]

/-- The weight scales' block is the weight scales. -/
theorem blk3 (c : Dev nD) (t : Fin cfg0.N) : (show S2432.Idx → EReal from iblk m c 3 t) = V m c main_arg2 := by
  blk_ext! [iblk, points t]

/-- The codes that point `t` writes at index `y` of its block are the codes at the array index `i` where that block puts `y`. -/
theorem codes_point (c : Dev nD) (t : Fin cfg0.N) (y : S1024x1536.Idx) (i : S8192x1536.Idx)
    (h0 : (i 0 : ℕ) = t.val * 1024 + y 0) (h1 : (i 1 : ℕ) = y 1) :
    k0_pay4 (F := Ideal) (iblk m c 0 t) (iblk m c 1 t) (iblk m c 2 t) (iblk m c 3 t) y
      = kCodes (V m c main_v0) (V m c main_v1) i := by
  rw [pay4_eq]
  refine (k_codes_at _ _ y).trans ?_
  exact congr (congrArg (fun s : S1x1.Idx → EReal => clip (kMult (s (ix2 0 0)))) (blk0 m c t)) (blk1 m c t y i h0 h1)

/-- After the run the array of codes holds the codes of all rows. -/
theorem k_codes_array (c : Dev nD) :
    (dats m 0 c).arrAt 5 cfg0.N = kCodes (V m c main_v0) (V m c main_v1) := by
  refine (dats m 0 c).arrAt_eq_of_covers 5 _ (by decide +kernel) fun t hf y => ?_
  blk_simp
  rw [after0_5]
  frame_out
  refine codes_point m c t y _ ?_ ?_ <;> blk_simp [points t] <;> omega

/-- The product that point `t` writes at row `a` and column `b` of its block is the product at the array's row `1024 t + a`. -/
theorem prod_point (c : Dev nD) (t : Fin cfg0.N) (a : Fin 1024) (b : Fin 2432) (r : Fin 8192)
    (h0 : (r : ℕ) = t.val * 1024 + a) :
    k0_pay1 (F := Ideal) (k0_pay2 (iblk m c 0 t)) (k0_pay4 (iblk m c 0 t) (iblk m c 1 t) (iblk m c 2 t) (iblk m c 3 t))
        (iblk m c 2 t) (iblk m c 3 t) (ix2 a b)
      = kProd (V m c main_v0) (V m c main_v1) (V m c main_arg1) (V m c main_arg2) (ix2 r b) := by
  refine (k_prod_at _ _ _ _ a b).trans ?_
  have e0 := blk0 m c t
  have e2 := blk2 m c t
  have e3 := blk3 m c t
  unfold kProd
  refine congr (congrArg HMul.hMul (congr (congrArg HMul.hMul (Finset.sum_congr rfl fun k _ => congr (congrArg HMul.hMul ?_) ?_)) ?_)) ?_
  · exact codes_point m c t (ix2 a k) (ix2 r k) h0 rfl
  · exact congrFun e2 _
  · exact congrFun e0 _
  · exact congrFun e3 _

/-- The same at any index `y` of the block and the array index `i` where the block puts it. -/
theorem prod_block (c : Dev nD) (t : Fin cfg0.N) (y : S1024x2432.Idx) (i : S8192x2432.Idx)
    (h0 : (i 0 : ℕ) = t.val * 1024 + y 0) (h1 : (i 1 : ℕ) = y 1) :
    k0_pay1 (F := Ideal) (k0_pay2 (iblk m c 0 t)) (k0_pay4 (iblk m c 0 t) (iblk m c 1 t) (iblk m c 2 t) (iblk m c 3 t))
        (iblk m c 2 t) (iblk m c 3 t) y
      = kProd (V m c main_v0) (V m c main_v1) (V m c main_arg1) (V m c main_arg2) i := by
  idx_vars y
  idx_vars i
  obtain rfl : i1 = y1 := Fin.ext h1
  exact prod_point m c t y0 i1 i0 h0

/-- After the run the array of the product holds the product of all rows. -/
theorem k_prod_array (c : Dev nD) :
    (dats m 0 c).arrAt 4 cfg0.N = kProd (V m c main_v0) (V m c main_v1) (V m c main_arg1) (V m c main_arg2) := by
  refine (dats m 0 c).arrAt_eq_of_covers 4 _ (by decide +kernel) fun t hf y => ?_
  blk_simp
  rw [after0_4]
  frame_out
  refine prod_block m c t y _ ?_ ?_ <;> blk_simp [points t] <;> omega

end Cert.Proof

end
-- ==== Proof.KernelRun.lean ====
/- The kernel's run, every result named as a function of the arguments. -/
module

public import proofs.«01_k».proof.Proof.KernelArray
public import Idealize.ShloMosaic.Lib.Claim

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The region reads the scale as a 1×1 array. -/
theorem V_v0 (c : Dev nD) : V m c main_v0 = shapeCast S1x1 (m ((c : Thread nD τ).loc main_arg3)) shapeCasts_S1_S1x1 := by
  entry_read; rfl

/-- The region reads the activations with the batch and row axes folded into one. -/
theorem V_v1 (c : Dev nD) :
    V m c main_v1 = shapeCast S8192x1536 (m ((c : Thread nD τ).loc main_arg0)) shapeCasts_S4x2048x1536_S8192x1536 := by
  entry_read; rfl

/-- The kernel's region works on distinct arrays, one a window. -/
theorem arrays_ne : ∀ w w', w ≠ w' → Pipeline.arrRef spec0 w ≠ Pipeline.arrRef spec0 w' := by decide +kernel

/-- The host's last operations unfold the product's row axis. -/
theorem exit_v3 (c : Dev nD) :
    Pipeline.afterTail₀ cfgs (dats m) 0 (V0 m) [hostOps1] c main_v3
      = shapeCast S4x2048x2432 ((dats m 0 c).arrAt 4 cfg0.N) shapeCasts_S8192x2432_S4x2048x2432 := by
  unfold Pipeline.afterTail₀
  have h := Pipeline.withArrays_arr_shared (cfgs 0).spec c (V0 m c) (fun w => (dats m 0 c).arrAt w (cfgs 0).N)
    (fun w w' hne e => absurd e (arrays_ne w w' hne)) 4
  rw [← h]
  generalize Pipeline.withArrays (cfgs 0).spec c (V0 m c) (fun w => (dats m 0 c).arrAt w (cfgs 0).N) = σ
  show StableHlo.after hostOps1 σ (Proc.devRef .tc main_v3) = _
  entry_read
  rfl

/-- The host's last operations unfold the codes' row axis. -/
theorem exit_v4 (c : Dev nD) :
    Pipeline.afterTail₀ cfgs (dats m) 0 (V0 m) [hostOps1] c main_v4
      = shapeCast S4x2048x1536 ((dats m 0 c).arrAt 5 cfg0.N) shapeCasts_S8192x1536_S4x2048x1536 := by
  unfold Pipeline.afterTail₀
  have h := Pipeline.withArrays_arr_shared (cfgs 0).spec c (V0 m c) (fun w => (dats m 0 c).arrAt w (cfgs 0).N)
    (fun w w' hne e => absurd e (arrays_ne w w' hne)) 5
  rw [← h]
  generalize Pipeline.withArrays (cfgs 0).spec c (V0 m c) (fun w => (dats m 0 c).arrAt w (cfgs 0).N) = σ
  show StableHlo.after hostOps1 σ (Proc.devRef .tc main_v4) = _
  entry_read
  rfl

/-- The kernel's first result, as a function of its arguments. -/
def kOut (x : S4x2048x1536.Idx → EReal) (w : S2432x1536.Idx → EReal) (ws : S2432.Idx → EReal) (s : S1.Idx → EReal) :
    S4x2048x2432.Idx → EReal :=
  shapeCast S4x2048x2432
    (kProd (shapeCast S1x1 s shapeCasts_S1_S1x1) (shapeCast S8192x1536 x shapeCasts_S4x2048x1536_S8192x1536) w ws)
    shapeCasts_S8192x2432_S4x2048x2432

/-- The kernel's second result, as a function of its arguments. -/
def kOutCodes (x : S4x2048x1536.Idx → EReal) (s : S1.Idx → EReal) : S4x2048x1536.Idx → EReal :=
  shapeCast S4x2048x1536
    (kCodes (shapeCast S1x1 s shapeCasts_S1_S1x1) (shapeCast S8192x1536 x shapeCasts_S4x2048x1536_S8192x1536))
    shapeCasts_S8192x1536_S4x2048x1536

/-- The first result after the host's last operations. -/
theorem result_v3 (c : Dev nD) :
    Pipeline.afterTail₀ cfgs (dats m) 0 (V0 m) [hostOps1] c main_v3
      = kOut (m ((c : Thread nD τ).loc main_arg0)) (m ((c : Thread nD τ).loc main_arg1)) (m ((c : Thread nD τ).loc main_arg2))
          (m ((c : Thread nD τ).loc main_arg3)) := by
  rw [exit_v3, k_prod_array, V_v0, V_v1, V_main_arg1, V_main_arg2]
  rfl

/-- The second result after the host's last operations. -/
theorem result_v4 (c : Dev nD) :
    Pipeline.afterTail₀ cfgs (dats m) 0 (V0 m) [hostOps1] c main_v4
      = kOutCodes (m ((c : Thread nD τ).loc main_arg0)) (m ((c : Thread nD τ).loc main_arg3)) := by
  rw [exit_v4, k_codes_array, V_v0, V_v1]
  rfl

/-- The kernel runs, leaves its two computed results as stated, and leaves its arguments — the scale, its third result, among
    them — unchanged. -/
theorem kernel_run : θ_run defs (onTc (τ := τ) (main (F := Ideal))) ⟨m, fun _ => 0, ρ⟩ fun r => ∀ c : Dev nD,
      r.2.mem ((c.tc : Thread nD τ).loc main_v3)
        = kOut (m ((c : Thread nD τ).loc main_arg0)) (m ((c : Thread nD τ).loc main_arg1)) (m ((c : Thread nD τ).loc main_arg2))
            (m ((c : Thread nD τ).loc main_arg3))
      ∧ r.2.mem ((c.tc : Thread nD τ).loc main_v4)
        = kOutCodes (m ((c : Thread nD τ).loc main_arg0)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_v3 m c),
      ((h c).2 main_v4 (Pipeline.mem_restRefs_of main_v4 (by decide) (by decide))).trans (result_v4 m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c)⟩)
    (run_main m ρ)

end Cert.Proof

end
-- ==== Proof.ReferenceInv.lean ====
/- The multiplier that the reference computes from the scale: the largest power of two at or below `|scale|`, and its
   reciprocal. -/
module

public import proofs.«01_k».proof.Proof.Powers
public import Idealize.ShloMosaic.Lib.Pointwise

@[expose] public section

noncomputable section

namespace Cert.Proof

open Idealize.ShloMosaic

/-- The factor that the binary digit `d` of `x` contributes: the float of the word `w` where the digit is set, and one where not. -/
def digit (x : Fin 254) (d w : BitVec 32) : EReal :=
  Scalar.select (IntOp.cmpi CmpIPredicate.ne (IntOp.andi (BitVec.ofNat 32 ↑x) d) 0#32) (Ideal.ofBits FTy.f32 w) 1

/-- The reference's power number `x`, as its body computes it: the smallest normal power times the factors of `x`'s binary digits. -/
def power (x : Fin 254) : EReal :=
  Ideal.ofBits FTy.f32 8388608#32 * digit x 1#32 1073741824#32 * digit x 2#32 1082130432#32 * digit x 4#32 1098907648#32
    * digit x 8#32 1132462080#32 * digit x 16#32 1199570944#32 * digit x 32#32 1333788672#32 * digit x 64#32 1602224128#32
    * digit x 128#32 1602224128#32 * digit x 128#32 1602224128#32

/-- The reference's largest power of two at or below `a`, or zero when there is none. -/
def half (a : EReal) : EReal :=
  Finset.fold max (Ideal.ofBits FTy.f32 4286578688#32) (fun x : Fin 254 => if power x ≤ a then power x else 0) Finset.univ

/-- The reference's multiplier at the magnitude `a`. -/
def refMult (a : EReal) : EReal :=
  Scalar.select (IntOp.ori (BitVec.ofBool (decide (half a = 0)))
      (BitVec.ofBool (decide (a = Ideal.ofBits FTy.f32 2139095040#32))))
    (Ideal.ofBits FTy.f32 1073741824#32)
    (if half a = Ideal.ofBits FTy.f32 2130706432#32 then 0 else Ideal.div 1 (half a))

/-- The constants of the reference are words of powers of two, of infinity and of its negative. -/
theorem const_two : Ideal.ofBits FTy.f32 1073741824#32 = pow2 1 :=
  (thr_normal (i := 128) (by omega) (by omega)).trans (by norm_num)

theorem const_top : Ideal.ofBits FTy.f32 2139095040#32 = ⊤ := thr_top

theorem const_half_top : Ideal.ofBits FTy.f32 2130706432#32 = pow2 127 :=
  (thr_normal (i := 254) (by omega) (by omega)).trans (by norm_num)

theorem const_bot : Ideal.ofBits FTy.f32 4286578688#32 = ⊥ := by
  unfold Ideal.ofBits Ideal.ieee
  have hs : (BitVec.extractLsb' (8 + 23) 1 (4286578688#32 : BitVec 32) == 1#1) = true := by decide
  have he : (BitVec.extractLsb' 23 8 (4286578688#32 : BitVec 32)).toNat = 255 := by decide
  have hf : (BitVec.extractLsb' 0 23 (4286578688#32 : BitVec 32)).toNat = 0 := by decide
  simp only [FTy.bits] at hs he hf ⊢
  simp only [hs, he, hf]
  norm_num

/-- The product of two powers of two. -/
theorem pow2_mul (j k : ℤ) : pow2 j * pow2 k = pow2 (j + k) := by
  unfold pow2
  rw [← EReal.coe_mul, ← zpow_add₀ (two_ne_zero)]

/-- A digit's factor is a power of two: `2 ^ k` where the digit is set, with `127 + k` the exponent field of its word, else `2 ^ 0`. -/
theorem digit_eq (x : Fin 254) (d w : BitVec 32) (k : ℕ) (hk : k ≤ 127) (hw : w = BitVec.ofNat 32 (127 + k) <<< 23) :
    digit x d w = pow2 (if BitVec.ofNat 32 x.val &&& d ≠ 0#32 then (k : ℤ) else 0) := by
  have hv : Ideal.ofBits FTy.f32 w = pow2 k := by
    subst hw
    refine (thr_normal (i := 127 + k) (by omega) (by omega)).trans ?_
    congr 1; push_cast; ring
  have h1 : (1 : EReal) = pow2 0 := by unfold pow2; simp
  unfold digit
  rw [hv, h1]
  by_cases h : BitVec.ofNat 32 x.val &&& d = 0#32
  · rw [if_neg (not_not.mpr h)]
    simp [Scalar.select, IntOp.cmpi, IntOp.andi, h]
  · have hb : (BitVec.ofNat 32 x.val &&& d != 0#32) = true := bne_iff_ne.mpr h
    rw [if_pos h]
    simp only [Scalar.select, IntOp.cmpi, IntOp.andi, hb]
    rfl

/-- The digits of `x`, weighted, make `x` up. -/
theorem digits_sum (x : Fin 254) :
    (-126 : ℤ) + (if BitVec.ofNat 32 x.val &&& 1#32 ≠ 0#32 then ((1 : ℕ) : ℤ) else 0)
      + (if BitVec.ofNat 32 x.val &&& 2#32 ≠ 0#32 then ((2 : ℕ) : ℤ) else 0)
      + (if BitVec.ofNat 32 x.val &&& 4#32 ≠ 0#32 then ((4 : ℕ) : ℤ) else 0)
      + (if BitVec.ofNat 32 x.val &&& 8#32 ≠ 0#32 then ((8 : ℕ) : ℤ) else 0)
      + (if BitVec.ofNat 32 x.val &&& 16#32 ≠ 0#32 then ((16 : ℕ) : ℤ) else 0)
      + (if BitVec.ofNat 32 x.val &&& 32#32 ≠ 0#32 then ((32 : ℕ) : ℤ) else 0)
      + (if BitVec.ofNat 32 x.val &&& 64#32 ≠ 0#32 then ((64 : ℕ) : ℤ) else 0)
      + (if BitVec.ofNat 32 x.val &&& 128#32 ≠ 0#32 then ((64 : ℕ) : ℤ) else 0)
      + (if BitVec.ofNat 32 x.val &&& 128#32 ≠ 0#32 then ((64 : ℕ) : ℤ) else 0) = (x.val : ℤ) - 126 := by
  revert x; decide +kernel

/-- The reference's power number `x` is `2 ^ (x - 126)`: the value of the word with exponent field `x + 1`. -/
theorem power_eq (x : Fin 254) : power x = pow2 ((x.val : ℤ) - 126) := by
  have h0 : Ideal.ofBits FTy.f32 8388608#32 = pow2 (-126) := (thr_normal (i := 1) (by omega) (by omega)).trans (by norm_num)
  unfold power
  rw [h0, digit_eq x _ _ 1 (by omega) (by decide), digit_eq x _ _ 2 (by omega) (by decide), digit_eq x _ _ 4 (by omega) (by decide),
    digit_eq x _ _ 8 (by omega) (by decide), digit_eq x _ _ 16 (by omega) (by decide), digit_eq x _ _ 32 (by omega) (by decide),
    digit_eq x 64#32 _ 64 (by omega) (by decide), digit_eq x 128#32 _ 64 (by omega) (by decide)]
  simp only [pow2_mul]
  rw [digits_sum]

theorem power_eq_thr (x : Fin 254) : power x = thr (x.val + 1) := by
  rw [power_eq, thr_normal (by omega) (by omega)]; congr 1; push_cast; ring

/-- The reference's largest power, at exponent field `n`. -/
theorem half_eq {a : EReal} {n : ℕ} (h : IsField a n) :
    half a = if n = 0 then 0 else if n = 255 then pow2 127 else pow2 ((n : ℤ) - 127) := by
  have hn := h.le
  have hp : ∀ x : Fin 254, (if power x ≤ a then power x else 0) = if x.val + 1 ≤ n then pow2 ((x.val : ℤ) - 126) else 0 := by
    intro x
    rw [power_eq_thr]
    by_cases hx : x.val + 1 ≤ n
    · rw [if_pos hx, if_pos ((h.iff _ (by omega) (by omega)).mpr hx), ← power_eq_thr, power_eq]
    · rw [if_neg hx, if_neg fun hc => hx ((h.iff _ (by omega) (by omega)).mp hc)]
  unfold half
  rw [const_bot]
  simp only [hp]
  apply le_antisymm
  · rw [Finset.fold_max_le]
    refine ⟨bot_le, fun x _ => ?_⟩
    by_cases hx : x.val + 1 ≤ n
    · rw [if_pos hx, if_neg (by omega)]
      split
      · exact pow2_le_pow2 (by omega)
      · exact pow2_le_pow2 (by omega)
    · rw [if_neg hx]
      split
      · exact le_refl _
      · split <;> exact (pow2_pos _).le
  · rw [Finset.le_fold_max]
    right
    by_cases h0 : n = 0
    · exact ⟨0, Finset.mem_univ _, by rw [if_pos h0, if_neg (by simp; omega)]⟩
    · rw [if_neg h0]
      by_cases h1 : n = 255
      · refine ⟨253, Finset.mem_univ _, ?_⟩
        rw [if_pos h1, if_pos (by simp; omega)]
        exact pow2_le_pow2 (by simp)
      · refine ⟨⟨n - 1, by omega⟩, Finset.mem_univ _, ?_⟩
        rw [if_neg h1, if_pos (by simp; omega)]
        exact pow2_le_pow2 (by simp only; omega)

/-- The magnitude is infinite exactly at the exponent field 255. -/
theorem eq_top_iff_field {a : EReal} {n : ℕ} (h : IsField a n) : a = ⊤ ↔ n = 255 := by
  have hi := h.iff 255 (by omega) (by omega)
  have hn := h.le
  rw [thr_top, top_le_iff] at hi
  rw [hi]; omega

/-- The reciprocal of a power of two. -/
theorem div_pow2 (k : ℤ) : Ideal.div 1 (pow2 k) = pow2 (-k) := by
  unfold Ideal.div
  rw [if_neg (pow2_pos k).ne', one_mul]
  unfold pow2
  rw [← EReal.coe_inv, zpow_neg]

/-- A select on the `or` of two decisions. -/
theorem select_or (p q : Prop) [Decidable p] [Decidable q] (x y : EReal) :
    Scalar.select (IntOp.ori (BitVec.ofBool (decide p)) (BitVec.ofBool (decide q))) x y = if p ∨ q then x else y := by
  by_cases hp : p <;> by_cases hq : q <;> simp [hp, hq, Scalar.select, IntOp.ori]

/-- The reference's multiplier, at the magnitude `a`, is the multiplier of `a`'s exponent field. -/
theorem refMult_eq {a : EReal} {n : ℕ} (h : IsField a n) : refMult a = mult n := by
  have hn := h.le
  unfold refMult mult
  rw [select_or, const_two, const_top, const_half_top, half_eq h]
  have ht := eq_top_iff_field h
  by_cases h0 : n = 0
  · simp [h0]
  · by_cases h1 : n = 255
    · rw [if_pos (Or.inr (ht.mpr h1)), if_pos (Or.inr h1)]
    · rw [if_neg h0, if_neg h1, if_neg (by rintro (hc | hc); exacts [(pow2_pos _).ne' hc, h1 (ht.mp hc)]),
        if_neg (show ¬(n = 0 ∨ n = 255) by omega)]
      by_cases h2 : n = 254
      · rw [if_pos h2, if_pos (by subst h2; norm_num)]
      · rw [if_neg h2, if_neg (pow2_lt_pow2 (by omega)).ne, div_pow2]
        congr 1; ring

end Cert.Proof

end
-- ==== Proof.ReferenceBlock.lean ====
/- What the reference's body computes: the codes of all rows, and the product. -/
module

public import proofs.«01_k».proof.Proof.ReferenceInv
public import proofs.«01_k».proof.Proof.KernelBlock
public import proofs.«01_k».proof.Proof.Gen.ReferenceIdeal.Value
public import Idealize.ShloMosaic.Lib.Pointwise

@[expose] public section

set_option maxRecDepth 16384

noncomputable section

namespace Cert.Proof

open Idealize.ShloMosaic

/-- The reference's multiplier from its scale. -/
def rMult (s : Ideal .f32) : EReal := refMult (FloatOps.absf s)

/-- The body's numbers `0, …, 253`. -/
def rIota : IVec Cert.ReferenceIdeal.S1x254 32 :=
  iota .tc Cert.ReferenceIdeal.S1x254 32 [1] Cert.ReferenceIdeal.Gen.iota_S1x254_d1_w32

/-- The body's powers of two. -/
def rPowers : FVec Ideal Cert.ReferenceIdeal.S1x254 .f32 :=
  Cert.ReferenceIdeal.Gen.k0_pay5 (F := Ideal) rIota (Cert.ReferenceIdeal.Gen.k0_pay3 (F := Ideal))
    Cert.ReferenceIdeal.Gen.k0_pay4 0#32

/-- The body's codes, from the scale and the activations. -/
def rCodesBlk (s : Vec Ideal Cert.ReferenceIdeal.S1x1 .f32) (x : Vec Ideal Cert.ReferenceIdeal.S4x2048x1536 .bf16) :
    FVec Ideal Cert.ReferenceIdeal.S4x2048x1536 .fp8e4m3 :=
  Cert.ReferenceIdeal.Gen.k0_pay8 (F := Ideal) (Cert.ReferenceIdeal.Gen.k0_pay2 s) rPowers
    (Cert.ReferenceIdeal.Gen.k0_pay6 (Cert.ReferenceIdeal.Gen.k0_pay2 s) rIota (Cert.ReferenceIdeal.Gen.k0_pay3 (F := Ideal))
      Cert.ReferenceIdeal.Gen.k0_pay4 0#32)
    (Cert.ReferenceIdeal.Gen.k0_pay7 (F := Ideal)) x

/-- The body's product, from the scale, the activations, the weight and its scales. -/
def rProdBlk (s : Vec Ideal Cert.ReferenceIdeal.S1x1 .f32) (x : Vec Ideal Cert.ReferenceIdeal.S4x2048x1536 .bf16)
    (w : Vec Ideal Cert.ReferenceIdeal.S2432x1536 .fp8e4m3) (ws : Vec Ideal Cert.ReferenceIdeal.S2432 .f32) :
    FVec Ideal Cert.ReferenceIdeal.S4x2048x2432 .bf16 :=
  Cert.ReferenceIdeal.Gen.k0_pay9 (F := Ideal) (Cert.ReferenceIdeal.Gen.k0_pay1 s) (Cert.ReferenceIdeal.Gen.k0_pay2 s) rPowers
    (Cert.ReferenceIdeal.Gen.k0_pay6 (Cert.ReferenceIdeal.Gen.k0_pay2 s) rIota (Cert.ReferenceIdeal.Gen.k0_pay3 (F := Ideal))
      Cert.ReferenceIdeal.Gen.k0_pay4 0#32)
    (Cert.ReferenceIdeal.Gen.k0_pay7 (F := Ideal)) x w ws

/-- The body's power number `n`. -/
theorem r_powers_at (n : Fin 254) : rPowers (ix2 0 n) = power n := by
  pointwise [rPowers, rIota, Cert.ReferenceIdeal.Gen.k0_pay3, Cert.ReferenceIdeal.Gen.k0_pay4, Cert.ReferenceIdeal.Gen.k0_pay5]
  rfl

/-- The comparison's operand, computed again for it, is the powers. -/
theorem r_cmp (v : FVec Ideal Cert.ReferenceIdeal.S1x1 .f32) :
    Cert.ReferenceIdeal.Gen.k0_pay6 (F := Ideal) v rIota (Cert.ReferenceIdeal.Gen.k0_pay3 (F := Ideal))
        Cert.ReferenceIdeal.Gen.k0_pay4 0#32
      = cmpf .ole rPowers (broadcastTo Cert.ReferenceIdeal.S1x254 v Cert.ReferenceIdeal.Gen.broadcasts_S1x1_S1x254) := rfl

/-- The reference's codes, at batch, row and column `i`. -/
theorem r_codes_at (s : Vec Ideal Cert.ReferenceIdeal.S1x1 .f32) (x : Vec Ideal Cert.ReferenceIdeal.S4x2048x1536 .bf16)
    (i : Cert.ReferenceIdeal.S4x2048x1536.Idx) :
    rCodesBlk s x i = clip (rMult (s (ix2 0 0))) (x i) := by
  unfold rCodesBlk
  rw [r_cmp]
  have hp : ∀ n : Fin 254, rPowers (ix2 0 n) = power n := r_powers_at
  generalize rPowers = p at hp
  idx_vars i
  pointwise [Cert.ReferenceIdeal.Gen.k0_pay1, Cert.ReferenceIdeal.Gen.k0_pay2, Cert.ReferenceIdeal.Gen.k0_pay7,
    Cert.ReferenceIdeal.Gen.k0_pay8]
  simp only [hp]
  rfl

/-- The reference's product, at batch `a`, row `r` and column `b`. -/
theorem r_prod_at (s : Vec Ideal Cert.ReferenceIdeal.S1x1 .f32) (x : Vec Ideal Cert.ReferenceIdeal.S4x2048x1536 .bf16)
    (w : Vec Ideal Cert.ReferenceIdeal.S2432x1536 .fp8e4m3) (ws : Vec Ideal Cert.ReferenceIdeal.S2432 .f32)
    (a : Fin 4) (r : Fin 2048) (b : Fin 2432) :
    rProdBlk s x w ws (ix3 a r b)
      = ((∑ k : Fin 1536, rCodesBlk s x (ix3 a r k) * w (ix2 b k) : EReal) * s (ix2 0 0) * ws (ix1 b) : EReal) := by
  unfold rProdBlk Cert.ReferenceIdeal.Gen.k0_pay9
  have hq : Cert.ReferenceIdeal.Gen.k0_pay8 (F := Ideal) (Cert.ReferenceIdeal.Gen.k0_pay2 s) rPowers
    (Cert.ReferenceIdeal.Gen.k0_pay6 (Cert.ReferenceIdeal.Gen.k0_pay2 s) rIota (Cert.ReferenceIdeal.Gen.k0_pay3 (F := Ideal))
      Cert.ReferenceIdeal.Gen.k0_pay4 0#32)
    (Cert.ReferenceIdeal.Gen.k0_pay7 (F := Ideal)) x = rCodesBlk s x := rfl
  rw [hq]
  generalize rCodesBlk s x = q
  pointwise [Cert.ReferenceIdeal.Gen.k0_pay1]

/-- The two programs multiply by the same number, whatever the scale. -/
theorem kMult_eq_rMult (s : Ideal .f32) : kMult s = rMult s := by
  obtain ⟨n, h⟩ := exists_isField (FloatOps.absf (F := Ideal) (φ := .f32) s : Ideal .f32)
  exact (kernel_mult h).trans (refMult_eq h).symm

end Cert.Proof

end
-- ==== Proof.ReferenceRun.lean ====
/- The reference's run, every result named as a function of the arguments. -/
module

public import proofs.«01_k».proof.Proof.ReferenceBlock
public import Idealize.ShloMosaic.Lib.Pipeline.ValueKit
public import Idealize.ShloMosaic.Lib.Claim

@[expose] public section

set_option maxRecDepth 16384

noncomputable section

namespace Cert.Proof.Ref

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

/-- The reference's second result, the codes, as a function of its arguments. -/
def rOutCodes (x : S4x2048x1536.Idx → EReal) (s : S1.Idx → EReal) : S4x2048x1536.Idx → EReal :=
  fun i => clip (rMult (s (ix1 0))) (x i)

/-- The reference's first result, the scaled product, as a function of its arguments. -/
def rOut (x : S4x2048x1536.Idx → EReal) (w : S2432x1536.Idx → EReal) (ws : S2432.Idx → EReal) (s : S1.Idx → EReal) :
    S4x2048x2432.Idx → EReal :=
  fun i => (∑ k : Fin 1536, rOutCodes x s (ix3 (i 0) (i 1) k) * w (ix2 (i 2) k)) * s (ix1 0) * ws (ix1 (i 2))

/-- Every block is its whole array, at offset zero. -/
theorem points : ∀ t : Fin cfg0.N,
    (cfg0.win 0).index t = ![0, 0, 0] ∧ (cfg0.win 1).index t = ![0, 0] ∧ (cfg0.win 2).index t = ![0]
    ∧ (cfg0.win 3).index t = ![0, 0] ∧ (cfg0.win 4).index t = ![0, 0, 0] ∧ (cfg0.win 5).index t = ![0, 0, 0] :=
  (by decide +kernel : ∀ t : Fin grid0.N,
    win0_0.index t = ![0, 0, 0] ∧ win0_1.index t = ![0, 0] ∧ win0_2.index t = ![0]
    ∧ win0_3.index t = ![0, 0] ∧ win0_4.index t = ![0, 0, 0] ∧ win0_5.index t = ![0, 0, 0])

/-- The scale's block, a 1×1 array, holds the scale. -/
theorem blk3 (c : Dev nD) (t : Fin cfg0.N) :
    (show S1x1.Idx → EReal from iblk m c 3 t) (ix2 0 0) = (show S1.Idx → EReal from m ((c : Thread nD τ).loc main_arg3)) (ix1 0) := by
  blk_ext! [iblk, V, points t]

/-- The activations' block is the activations. -/
theorem blk0 (c : Dev nD) (t : Fin cfg0.N) :
    (show S4x2048x1536.Idx → EReal from iblk m c 0 t) = m ((c : Thread nD τ).loc main_arg0) := by
  blk_ext! [iblk, V, points t]

/-- The weight's block is the weight. -/
theorem blk1 (c : Dev nD) (t : Fin cfg0.N) :
    (show S2432x1536.Idx → EReal from iblk m c 1 t) = m ((c : Thread nD τ).loc main_arg1) := by
  blk_ext! [iblk, V, points t]

/-- The weight scales' block is the weight scales. -/
theorem blk2 (c : Dev nD) (t : Fin cfg0.N) :
    (show S2432.Idx → EReal from iblk m c 2 t) = m ((c : Thread nD τ).loc main_arg2) := by
  blk_ext! [iblk, V, points t]

/-- The codes the body computes. -/
theorem codes_point (c : Dev nD) (t : Fin cfg0.N) (y i : S4x2048x1536.Idx) (h : i = y) :
    rCodesBlk (iblk m c 3 t) (iblk m c 0 t) y
      = rOutCodes (m ((c : Thread nD τ).loc main_arg0)) (m ((c : Thread nD τ).loc main_arg3)) i := by
  subst h
  refine (r_codes_at _ _ i).trans ?_
  exact congr (congrArg (fun s : EReal => clip (rMult s)) (blk3 m c t)) (congrFun (blk0 m c t) i)

/-- The product the body computes. -/
theorem prod_point (c : Dev nD) (t : Fin cfg0.N) (y i : S4x2048x2432.Idx) (h : i = y) :
    rProdBlk (iblk m c 3 t) (iblk m c 0 t) (iblk m c 1 t) (iblk m c 2 t) y
      = rOut (m ((c : Thread nD τ).loc main_arg0)) (m ((c : Thread nD τ).loc main_arg1)) (m ((c : Thread nD τ).loc main_arg2))
          (m ((c : Thread nD τ).loc main_arg3)) i := by
  subst h
  idx_vars i
  refine (r_prod_at _ _ _ _ i0 i1 i2).trans ?_
  have e1 := blk1 m c t
  have e2 := blk2 m c t
  have e3 := blk3 m c t
  unfold rOut
  refine congr (congrArg HMul.hMul (congr (congrArg HMul.hMul (Finset.sum_congr rfl fun k _ => congr (congrArg HMul.hMul ?_) ?_)) ?_)) ?_
  · exact codes_point m c t (ix3 i0 i1 k) (ix3 i0 i1 k) rfl
  · exact congrFun e1 _
  · exact e3
  · exact congrFun e2 _

section Payloads
variable (x : Vec Ideal S4x2048x1536 .bf16) (w : Vec Ideal S2432x1536 .fp8e4m3) (ws : Vec Ideal S2432 .f32) (s : Vec Ideal S1x1 .f32)

/-! The values that the body names, as this proof names them. -/

theorem pay11_eq : k0_pay11 (F := Ideal) x w ws s = k0_pay2 s := by
  unfold k0_pay11
  rw [View.ld_unit_lit]; decide

theorem pay14_eq : k0_pay14 (F := Ideal) x w ws s = rPowers := by
  unfold k0_pay14 k0_pay13 k0_pay12 k0_pay10 rPowers rIota; rfl

theorem pay15_eq : k0_pay15 (F := Ideal) x w ws s
    = k0_pay6 (k0_pay2 s) rIota (k0_pay3 (F := Ideal)) k0_pay4 0#32 := by
  unfold k0_pay15
  rw [pay11_eq]
  unfold k0_pay13 k0_pay12 k0_pay10 rIota; rfl

theorem pay16_eq : k0_pay16 (F := Ideal) x w ws s = k0_pay7 (F := Ideal) := by
  unfold k0_pay16; rfl

/-- The body's codes. -/
theorem codes_pay : k0_pay8 (F := Ideal) (k0_pay11 x w ws s) (k0_pay14 x w ws s) (k0_pay15 x w ws s) (k0_pay16 x w ws s) x
    = rCodesBlk s x := by
  rw [pay11_eq, pay14_eq, pay15_eq, pay16_eq]; unfold rCodesBlk; rfl

/-- The body's product. -/
theorem prod_pay : k0_pay9 (F := Ideal) (k0_pay1 s) (k0_pay11 x w ws s) (k0_pay14 x w ws s) (k0_pay15 x w ws s)
    (k0_pay16 x w ws s) x w ws = rProdBlk s x w ws := by
  rw [pay11_eq, pay14_eq, pay15_eq, pay16_eq]; unfold rProdBlk; rfl

end Payloads

/-- After the run the array of codes holds the codes. -/
theorem codes_array (c : Dev nD) :
    (dats m 0 c).arrAt 5 cfg0.N = rOutCodes (m ((c : Thread nD τ).loc main_arg0)) (m ((c : Thread nD τ).loc main_arg3)) := by
  refine (dats m 0 c).arrAt_eq_of_covers 5 _ (by decide +kernel) fun t hf y => ?_
  blk_simp
  rw [after0_5]
  frame_out
  refine (congrFun (codes_pay _ _ _ _) y).trans ?_
  refine codes_point m c t y _ ?_
  blk_ext [points t]

/-- After the run the array of the product holds the product. -/
theorem prod_array (c : Dev nD) :
    (dats m 0 c).arrAt 4 cfg0.N
      = rOut (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t hf y => ?_
  blk_simp
  rw [after0_4]
  frame_out
  refine (congrFun (prod_pay _ _ _ _) y).trans ?_
  refine prod_point m c t y _ ?_
  blk_ext [points t]

/-- The reference runs, leaves its two computed results as stated, and leaves its arguments unchanged. -/
theorem reference_run : θ_run defs (onTc (τ := τ) (main (F := Ideal))) ⟨m, fun _ => 0, ρ⟩ fun r => ∀ c : Dev nD,
      r.2.mem ((c.tc : Thread nD τ).loc main_v1_0)
        = rOut (m ((c : Thread nD τ).loc main_arg0)) (m ((c : Thread nD τ).loc main_arg1)) (m ((c : Thread nD τ).loc main_arg2))
            (m ((c : Thread nD τ).loc main_arg3))
      ∧ r.2.mem ((c.tc : Thread nD τ).loc main_v1_1)
        = rOutCodes (m ((c : Thread nD τ).loc main_arg0)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (prod_array m c), (h c).2.1.trans (codes_array m c), (h c).2.2⟩)
    (Value.run_blocks m ρ)

end Cert.Proof.Ref

end
-- ==== Proof.Equation.lean ====
/- The equation between the two programs' results: the kernel folds batch and row into one axis and unfolds it again; index by
   index the two compute the same number. -/
module

public import proofs.«01_k».proof.Defs
public import proofs.«01_k».proof.Proof.KernelRun
public import proofs.«01_k».proof.Proof.ReferenceRun

@[expose] public section

set_option maxRecDepth 16384

noncomputable section

namespace Cert.Proof

open Idealize.ShloMosaic Idealize.SL.Sem
open Cert.KernelIdeal

/-- The codes of the two programs are the same. -/
theorem codes_eq (x : S4x2048x1536.Idx → EReal) (s : S1.Idx → EReal) : kOutCodes x s = Ref.rOutCodes x s := by
  funext i
  idx_vars i
  pointwise [kOutCodes, kCodes, Ref.rOutCodes]
  rw [kMult_eq_rMult]

/-- The scaled products of the two programs are the same. -/
theorem prod_eq (x : S4x2048x1536.Idx → EReal) (w : S2432x1536.Idx → EReal) (ws : S2432.Idx → EReal) (s : S1.Idx → EReal) :
    kOut x w ws s = Ref.rOut x w ws s := by
  funext i
  idx_vars i
  pointwise [kOut, kProd, kCodes, Ref.rOut, Ref.rOutCodes]
  rw [kMult_eq_rMult]

/-- At every launch on equal arguments, the kernel and the reference both run and their results are equal. -/
theorem algebraic : Cert.algebraic_KernelIdeal_ReferenceIdeal
    (hKernelIdeal := Cert.KernelIdeal.Gen.facts) (hReferenceIdeal := Cert.ReferenceIdeal.Gen.facts) := by
  intro m g m' g' _ hargs
  refine ⟨_, _, _, (θ_run _ _ _).mono (fun r h c => ⟨(h c).1, (h c).2.1, (h c).2.2.2.2.2, (h c).2.2⟩) (kernel_run m g),
    (θ_run _ _ _).mono (fun r h c => ?_) (Ref.reference_run m' g')⟩
  obtain ⟨e0, e1, e2, e3⟩ := hargs c
  obtain ⟨h0, h1, k0, k1, k2, k3⟩ := h c
  refine ⟨h0.trans ?_, h1.trans ?_, k3.trans e3, k0, k1, k2, k3⟩
  · rw [e0, e1, e2, e3]; exact (prod_eq _ _ _ _).symm
  · rw [e0, e3]; exact (codes_eq _ _).symm

end Cert.Proof

end
-- ==== Proof.lean ====
/- The certificate. Its parts:
   - the FRAMES: each program, started with its semaphore counters at zero, ends without a fault, with its arguments unchanged and
     the counters at zero — the generated frame theorems, at bit patterns for the kernel and over the extended reals for the kernel
     and the reference;
   - PRESERVES: the kernel is read over the extended reals as it stands;
   - ALGEBRAIC: over the extended reals the kernel and the reference, on equal arguments, leave equal results — proved in Proof/:
     Powers (the powers of two and the exponent field of a magnitude), KernelInv and ReferenceInv (each program's multiplier from
     that field), KernelBlock and ReferenceBlock (what one block computes), KernelArray, KernelRun and ReferenceRun (what the arrays
     hold after the runs), Equation (the two are equal). -/
module

public import proofs.«01_k».proof.Defs
public import proofs.«01_k».proof.Proof.Gen.Kernel.Frame
public import proofs.«01_k».proof.Proof.Gen.KernelIdeal.Frame
public import proofs.«01_k».proof.Proof.Gen.ReferenceIdeal.Value
public import proofs.«01_k».proof.Proof.Equation

@[expose] public section

/-- Everything claimed, assembled from its parts. -/
theorem Cert.Proof.claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Cert.ReferenceIdeal.Gen.frame m g, trivial, Cert.Proof.algebraic⟩
